-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_empty_memory [hPre_empty_memory : Cert.Pre_empty_memory.Facts] (m : (ℓ : Loc Cert.KernelIdeal.nD Cert.KernelIdeal.τ Cert.KernelIdeal.sig) → Buf (Elt Ideal) ℓ) : Prop :=
  ∀ c : Dev Cert.KernelIdeal.nD,
    (Cert.Pre_empty_memory.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_empty_memory [hPre_empty_memory : Cert.Pre_empty_memory.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_empty_memory.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_empty_memory [hKernelIdeal : Cert.KernelIdeal.Facts] [hPre_empty_memory : Cert.Pre_empty_memory.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_empty_memory m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_empty_memory [hReferenceIdeal : Cert.ReferenceIdeal.Facts] [hPre_empty_memory : Cert.Pre_empty_memory.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_empty_memory m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_empty_memory [hKernelIdeal : Cert.KernelIdeal.Facts] [hReferenceIdeal : Cert.ReferenceIdeal.Facts] [hPre_empty_memory : Cert.Pre_empty_memory.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_empty_memory m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v9)) (v3 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_v10) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_v3) = v2 c
          ∧ r.2.mem ((c.tc : Thread Cert.ReferenceIdeal.nD Cert.ReferenceIdeal.τ).loc Cert.ReferenceIdeal.main_v7) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_empty_memory : Cert.Pre_empty_memory.Facts),
    quiescent_Kernel (hKernel := hKernel)
    ∧ quiescent_KernelIdeal (hKernelIdeal := hKernelIdeal)
    ∧ quiescent_KernelIdeal_pre_empty_memory (hKernelIdeal := hKernelIdeal) (hPre_empty_memory := hPre_empty_memory)
    ∧ quiescent_ReferenceIdeal (hReferenceIdeal := hReferenceIdeal)
    ∧ quiescent_ReferenceIdeal_pre_empty_memory (hReferenceIdeal := hReferenceIdeal) (hPre_empty_memory := hPre_empty_memory)
    ∧ preserves_Kernel_KernelIdeal
    ∧ algebraic_KernelIdeal_ReferenceIdeal_pre_empty_memory (hKernelIdeal := hKernelIdeal) (hReferenceIdeal := hReferenceIdeal) (hPre_empty_memory := hPre_empty_memory)
-- ==== Pre_empty_memory.lean ====
abbrev S256 : Shape := ⟨1, ![256]⟩
abbrev S256x256 : Shape := ⟨2, ![256, 256]⟩
abbrev S1x512 : Shape := ⟨2, ![1, 512]⟩
abbrev S1 : Shape := ⟨1, ![1]⟩
abbrev S1000x256x256 : Shape := ⟨3, ![1000, 256, 256]⟩
abbrev S999x256x256 : Shape := ⟨3, ![999, 256, 256]⟩
abbrev S_ : Shape := ⟨0, ![]⟩

class Facts : Prop where
  slices_S1000x256x256_S999x256x256_1_0_0 : S1000x256x256.Slices ![1, 0, 0] S999x256x256
  bcast_S_S999x256x256 : S_.BroadcastsInDim S999x256x256 (![] : Fin 0 → Fin S999x256x256.rank)
  reducesTo_S999x256x256_S_d0_1_2 : S999x256x256.ReducesTo [0, 1, 2] S_
  h_S_ : 0 < S_.numel

variable [Facts]

def fn {F : FTy → Type} [FloatOps F] (main_arg0 : FVec F S256 .f32) (main_arg1 : FVec F S256 .f32) (main_arg2 : FVec F S256x256 .f32) (main_arg3 : FVec F S256 .f32) (main_arg4 : FVec F S256x256 .f32) (main_arg5 : FVec F S256 .f32) (main_arg6 : FVec F S1x512 .f32) (main_arg7 : FVec F S1 .f32) (main_arg8 : FVec F S1000x256x256 .f32) : IVec S_ 1 :=
  let main_v0 : FVec F S999x256x256 .f32 := (extractStridedSlice S999x256x256 ![1, 0, 0] · slices_S1000x256x256_S999x256x256_1_0_0) main_arg8
  let main_cst : FVec F S_ .f32 := constant S_ .f32 0x00000000#32
  let main_v1 : FVec F S999x256x256 .f32 := broadcastInDim S999x256x256 ![] bcast_S_S999x256x256 main_cst
  let main_v2 : IVec S999x256x256 1 := cmpf .oeq main_v0 main_v1
  let main_c : IVec S_ 1 := constantI S_ 1 1#1
  let main_v3 : IVec S_ 1 := (fun x v => Host.reduce IntOp.andi x v reducesTo_S999x256x256_S_d0_1_2 h_S_) main_v2 main_c
  main_v3
-- ==== Kernel.lean ====
abbrev S256 : Shape := ⟨1, ![256]⟩
abbrev S256x256 : Shape := ⟨2, ![256, 256]⟩
abbrev S1x512 : Shape := ⟨2, ![1, 512]⟩
abbrev S1 : Shape := ⟨1, ![1]⟩
abbrev S1000x256x256 : Shape := ⟨3, ![1000, 256, 256]⟩
abbrev S1x256 : Shape := ⟨2, ![1, 256]⟩
abbrev S1x1 : Shape := ⟨2, ![1, 1]⟩
abbrev S25x256x256 : Shape := ⟨3, ![25, 256, 256]⟩
abbrev S1x256x256 : Shape := ⟨3, ![1, 256, 256]⟩

abbrev nBuf : Space → Nat
  | .hbm => 23
  | .vmem => 14
  | .smem => 0
  | _ => 0

abbrev bufTy : (tb : Table) → Fin (tcTables nBuf tb) → BufTy
  | .hbm, ⟨0, _⟩ => ⟨S256, .f32⟩
  | .hbm, ⟨1, _⟩ => ⟨S256, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S1x512, .f32⟩
  | .hbm, ⟨7, _⟩ => ⟨S1, .f32⟩
  | .hbm, ⟨8, _⟩ => ⟨S1000x256x256, .f32⟩
  | .hbm, ⟨9, _⟩ => ⟨S1x256, .f32⟩
  | .hbm, ⟨10, _⟩ => ⟨S1x256, .f32⟩
  | .hbm, ⟨11, _⟩ => ⟨S1x256, .f32⟩
  | .hbm, ⟨12, _⟩ => ⟨S1x256, .f32⟩
  | .hbm, ⟨13, _⟩ => ⟨S1x256, .f32⟩
  | .hbm, ⟨14, _⟩ => ⟨S1x256, .f32⟩
  | .hbm, ⟨15, _⟩ => ⟨S1x1, .f32⟩
  | .hbm, ⟨16, _⟩ => ⟨S1000x256x256, .f32⟩
  | .hbm, ⟨17, _⟩ => ⟨S1x256, .f32⟩
  | .hbm, ⟨18, _⟩ => ⟨S1x256, .f32⟩
  | .hbm, ⟨19, _⟩ => ⟨S1x1, .f32⟩
  | .hbm, ⟨20, _⟩ => ⟨S1, .f32⟩
  | .hbm, ⟨21, _⟩ => ⟨S256, .f32⟩
  | .hbm, ⟨22, _⟩ => ⟨S256, .f32⟩
  | .local _ .vmem, ⟨0, _⟩ => ⟨S1x256, .f32⟩
  | .local _ .vmem, ⟨1, _⟩ => ⟨S1x256, .f32⟩
  | .local _ .vmem, ⟨2, _⟩ => ⟨S256x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1x1, .f32⟩
  | .local _ .vmem, ⟨9, _⟩ => ⟨S25x256x256, .f32⟩
  | .local _ .vmem, ⟨10, _⟩ => ⟨S25x256x256, .f32⟩
  | .local _ .vmem, ⟨11, _⟩ => ⟨S1x256, .f32⟩
  | .local _ .vmem, ⟨12, _⟩ => ⟨S1x256, .f32⟩
  | .local _ .vmem, ⟨13, _⟩ => ⟨S1x1, .f32⟩
  | _, _ => ⟨S256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg9_1 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem9_1 : DmaSem sig := 10
abbrev cc0_sem10_0 : DmaSem sig := 11
abbrev cc0_sem11_0 : DmaSem sig := 12
abbrev cc0_sem12_0 : DmaSem sig := 13

abbrev nD : Nat := 1
abbrev τ : Topo := Topo.v7x

variable {F : FTy → Type} [FloatOps F]

abbrev grid0 : Pipeline.Grid := ⟨1, ![40], ![false]⟩

def k0_cond1 (i : grid0.Coords) : BitVec 1 :=
  let arg0 : BitVec 32 := BitVec.ofNat 32 (i 0).val
  let c39_i32 : BitVec 32 := 39#32
  let v2 : BitVec 1 := Scalar.cmpi .eq arg0 c39_i32
  let v3 : BitVec 32 := Scalar.extui v2
  let c0_i32 : BitVec 32 := 0#32
  let v4 : BitVec 1 := Scalar.cmpi .ne v3 c0_i32
  v4

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c39_i32 : BitVec 32 := 39#32
  let v0 : BitVec 32 := Scalar.subi c39_i32 arg0
  let c0_i32 : BitVec 32 := 0#32
  let c0_i32_0 : BitVec 32 := 0#32
  let c0_i32_1 : BitVec 32 := 0#32
  ![v0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S25x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S256 : Shape := ⟨1, ![256]⟩
abbrev S256x256 : Shape := ⟨2, ![256, 256]⟩
abbrev S1x512 : Shape := ⟨2, ![1, 512]⟩
abbrev S1 : Shape := ⟨1, ![1]⟩
abbrev S1000x256x256 : Shape := ⟨3, ![1000, 256, 256]⟩
abbrev S512 : Shape := ⟨1, ![512]⟩
abbrev S512x1 : Shape := ⟨2, ![512, 1]⟩
abbrev S_ : Shape := ⟨0, ![]⟩
abbrev S256x1 : Shape := ⟨2, ![256, 1]⟩
abbrev S1x256 : Shape := ⟨2, ![1, 256]⟩

abbrev nBuf : Space → Nat
  | .hbm => 40
  | .vmem => 0
  | .smem => 0
  | _ => 0

abbrev bufTy : (tb : Table) → Fin (tcTables nBuf tb) → BufTy
  | .hbm, ⟨0, _⟩ => ⟨S256, .f32⟩
  | .hbm, ⟨1, _⟩ => ⟨S256, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S1x512, .f32⟩
  | .hbm, ⟨7, _⟩ => ⟨S1, .f32⟩
  | .hbm, ⟨8, _⟩ => ⟨S1000x256x256, .f32⟩
  | .hbm, ⟨9, _⟩ => ⟨S256x256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S256, .f32⟩
  | .hbm, ⟨16, _⟩ => ⟨S256, .f32⟩
  | .hbm, ⟨17, _⟩ => ⟨S512, .f32⟩
  | .hbm, ⟨18, _⟩ => ⟨S512x1, .f32⟩
  | .hbm, ⟨19, _⟩ => ⟨S1, .f32⟩
  | .hbm, ⟨20, _⟩ => ⟨S1, .f32⟩
  | .hbm, ⟨21, _⟩ => ⟨S1, .f32⟩
  | .hbm, ⟨22, _⟩ => ⟨S1, .f32⟩
  | .hbm, ⟨23, _⟩ => ⟨S_, .f32⟩
  | .hbm, ⟨24, _⟩ => ⟨S1, .f32⟩
  | .hbm, ⟨25, _⟩ => ⟨S1, .f32⟩
  | .hbm, ⟨26, _⟩ => ⟨S_, .f32⟩
  | .hbm, ⟨27, _⟩ => ⟨S1, .f32⟩
  | .hbm, ⟨28, _⟩ => ⟨S1, .f32⟩
  | .hbm, ⟨29, _⟩ => ⟨S256x1, .f32⟩
  | .hbm, ⟨30, _⟩ => ⟨S1x256, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S_, .f32⟩
  | .hbm, ⟨35, _⟩ => ⟨S256x256, .f32⟩
  | .hbm, ⟨36, _⟩ => ⟨S256x256, .f32⟩
  | .hbm, ⟨37, _⟩ => ⟨S_, .i32⟩
  | .hbm, ⟨38, _⟩ => ⟨S1, .i32⟩
  | .hbm, ⟨39, _⟩ => ⟨S1000x256x256, .f32⟩
  | _, _ => ⟨S256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_c : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Proof.Spec.lean ====
/-
  What the kernel and the reference both compute, as functions of the argument arrays over the extended reals:
  the encoding of a vector by a linear layer and tanh, the gate (a logistic unit over two encodings), and the
  memory array after one association is stored in slot 0.
-/
module

public import proofs.«01_k».proof.Proof.Gen.KernelIdeal
public import Idealize.ShloMosaic.Lib.Pointwise

@[expose] public section

noncomputable section

namespace Cert.Association

open Cert.KernelIdeal Idealize.ShloMosaic

/-- Entry `i` of the encoding of the vector `x`: tanh of row `i` of the weights against `x`, plus the bias. -/
def encode (x : FVec Ideal S256 .f32) (W : FVec Ideal S256x256 .f32) (b : FVec Ideal S256 .f32) (i : Fin 256) : EReal :=
  Ideal.tanh ((∑ k : Fin 256, x (ix1 k) * W (ix2 i k)) + b (ix1 i))

/-- The encoding as an array of 256 entries. -/
def encoding (x : FVec Ideal S256 .f32) (W : FVec Ideal S256x256 .f32) (b : FVec Ideal S256 .f32) : FVec Ideal S256 .f32 :=
  fun j => encode x W b (j 0)

/-- The gate: the logistic function of the first half of the gate's weights against the encoded key, plus the second
    half against the encoded value, plus the gate's bias. -/
def gate (ek ev : FVec Ideal S256 .f32) (Wg : FVec Ideal S1x512 .f32) (bg : FVec Ideal S1 .f32) : FVec Ideal S1 .f32 :=
  fun _ => Ideal.logistic ((∑ k : Fin 256, ek (ix1 k) * Wg (ix2 0 ⟨k.val, by omega⟩))
    + (∑ k : Fin 256, ev (ix1 k) * Wg (ix2 0 ⟨256 + k.val, by omega⟩)) + bg (ix1 0))

/-- The memory holding one association: slot 0 is the scaled outer product of the encoded key and the encoded value,
    every other slot is zero. -/
def memory (ek ev : FVec Ideal S256 .f32) : FVec Ideal S1000x256x256 .f32 := fun j =>
  if (j 0).val = 0 then Ideal.ofBits .f32 0x3F4CCCCD#32 * (ek (ix1 (j 1)) * ev (ix1 (j 2))) else 0

/-- The memory at slot `a`, entry `(r, s)`. -/
theorem memory_at (ek ev : FVec Ideal S256 .f32) (a : Fin 1000) (r s : Fin 256) : memory ek ev (ix3 a r s)
    = if a.val = 0 then Ideal.ofBits .f32 0x3F4CCCCD#32 * (ek (ix1 r) * ev (ix1 s)) else 0 := rfl

end Cert.Association

end
-- ==== Proof.Body.lean ====
/-
  What one grid point of the kernel computes, entry by entry, from the rows it has loaded.
-/
module

public import proofs.«01_k».proof.Proof.Gen.KernelIdeal.Skeleton
public import proofs.«01_k».proof.Proof.Spec

@[expose] public section

set_option maxRecDepth 16384

noncomputable section

namespace Cert.Association

open Cert.KernelIdeal Cert.KernelIdeal.Gen Idealize.ShloMosaic

/-- The zero block holds zero everywhere. -/
theorem zeros_at (y : S25x256x256.Idx) : k0_pay1 (F := Ideal) y = 0 := by
  pointwise [k0_pay1]

/-- Entry `i` of the encoded key row. -/
theorem key_at (x : FVec Ideal S1x256 .f32) (W : FVec Ideal S256x256 .f32) (b : FVec Ideal S1x256 .f32) (i : Fin 256) :
    k0_pay3 (F := Ideal) x W b (ix2 0 i) = Ideal.tanh ((∑ k : Fin 256, x (ix2 0 k) * W (ix2 i k)) + b (ix2 0 i)) := by
  pointwise [k0_pay3]

/-- Entry `i` of the encoded value row. -/
theorem value_at (x : FVec Ideal S1x256 .f32) (W : FVec Ideal S256x256 .f32) (b : FVec Ideal S1x256 .f32) (i : Fin 256) :
    k0_pay4 (F := Ideal) x W b (ix2 0 i) = Ideal.tanh ((∑ k : Fin 256, x (ix2 0 k) * W (ix2 i k)) + b (ix2 0 i)) := by
  pointwise [k0_pay4]

/-- Entry `(r, s)` of the association written to slot 0. -/
theorem association_at (ek ev : FVec Ideal S1x256 .f32) (r s : Fin 256) :
    k0_pay2 (F := Ideal) ek ev (ix3 0 r s) = Ideal.ofBits .f32 0x3F4CCCCD#32 * (ek (ix2 0 r) * ev (ix2 0 s)) := by
  pointwise [k0_pay2]
  rw [Fin.sum_univ_one]

/-- The gate, from the two encoded rows and the two halves of its weights. -/
theorem gate_at (x : FVec Ideal S1x256 .f32) (W : FVec Ideal S256x256 .f32) (b : FVec Ideal S1x256 .f32)
    (x' : FVec Ideal S1x256 .f32) (W' : FVec Ideal S256x256 .f32) (b' : FVec Ideal S1x256 .f32)
    (gk gv : FVec Ideal S1x256 .f32) (bg : FVec Ideal S1x1 .f32) :
    k0_pay5 (F := Ideal) x W b x' W' b' gk gv bg (ix2 0 0)
      = Ideal.logistic ((∑ k : Fin 256, k0_pay3 (F := Ideal) x W b (ix2 0 k) * gk (ix2 0 k))
          + (∑ k : Fin 256, k0_pay4 (F := Ideal) x' W' b' (ix2 0 k) * gv (ix2 0 k)) + bg (ix2 0 0)) := by
  pointwise [k0_pay5]

end Cert.Association

end
-- ==== Proof.Inputs.lean ====
/-
  The kernel's input blocks: at every grid point each of them is its whole argument, reshaped or sliced by the lines
  before the region. With them, what a grid point computes is stated over the arguments.
-/
module

public import proofs.«01_k».proof.Proof.Gen.KernelIdeal.Frame
public import Idealize.ShloMosaic.Lib.Pipeline.ValueKit
public import proofs.«01_k».proof.Proof.Body

@[expose] public section

set_option maxRecDepth 16384

noncomputable section

namespace Cert.Association

open Cert.KernelIdeal Cert.KernelIdeal.Gen Idealize.ShloMosaic Idealize.ShloMosaic.TcCoe
open Idealize.ShloMosaic.Pipeline (Dat)

variable (m : (ℓ : Loc nD τ sig) → Buf (Elt Ideal) ℓ)

/-- Every input window stays at block 0. -/
theorem input_index : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] :=
  (by decide +kernel : ∀ t : Fin grid0.N, _)

/-- The key row at the region's entry. -/
theorem key_entry (c : Dev nD) :
    V m c main_v0 = shapeCast S1x256 (m ((c.tc : Thread nD τ).loc main_arg0)) shapeCasts_S256_S1x256 := rfl

/-- The value row at the region's entry. -/
theorem value_entry (c : Dev nD) :
    V m c main_v1 = shapeCast S1x256 (m ((c.tc : Thread nD τ).loc main_arg1)) shapeCasts_S256_S1x256 := rfl

/-- The key bias row at the region's entry. -/
theorem keyBias_entry (c : Dev nD) :
    V m c main_v2 = shapeCast S1x256 (m ((c.tc : Thread nD τ).loc main_arg3)) shapeCasts_S256_S1x256 := rfl

/-- The value bias row at the region's entry. -/
theorem valueBias_entry (c : Dev nD) :
    V m c main_v3 = shapeCast S1x256 (m ((c.tc : Thread nD τ).loc main_arg5)) shapeCasts_S256_S1x256 := rfl

/-- The first half of the gate's weights at the region's entry. -/
theorem gateKey_entry (c : Dev nD) : V m c main_v4
    = extractStridedSlice S1x256 ![0, 0] (m ((c.tc : Thread nD τ).loc main_arg6)) slices_S1x512_S1x256_0_0 := rfl

/-- The second half of the gate's weights at the region's entry. -/
theorem gateValue_entry (c : Dev nD) : V m c main_v5
    = extractStridedSlice S1x256 ![0, 256] (m ((c.tc : Thread nD τ).loc main_arg6)) slices_S1x512_S1x256_0_256 := rfl

/-- The gate's bias at the region's entry. -/
theorem gateBias_entry (c : Dev nD) :
    V m c main_v6 = shapeCast S1x1 (m ((c.tc : Thread nD τ).loc main_arg7)) shapeCasts_S1_S1x1 := rfl

/-- The key row is the key. -/
theorem key_read (c : Dev nD) (t : Fin cfg0.N) (k : Fin 256) :
    iblk m c 0 t (ix2 0 k) = m ((c.tc : Thread nD τ).loc main_arg0) (ix1 k) := by
  have h : iblk m c 0 t = V m c main_v0 := by blk_ext! [iblk, input_index t]
  rw [h, key_entry]
  pointwise

/-- The value row is the value. -/
theorem value_read (c : Dev nD) (t : Fin cfg0.N) (k : Fin 256) :
    iblk m c 1 t (ix2 0 k) = m ((c.tc : Thread nD τ).loc main_arg1) (ix1 k) := by
  have h : iblk m c 1 t = V m c main_v1 := by blk_ext! [iblk, input_index t]
  rw [h, value_entry]
  pointwise

/-- The key weights' block is the whole array. -/
theorem keyWeights_read (c : Dev nD) (t : Fin cfg0.N) (i k : Fin 256) :
    iblk m c 2 t (ix2 i k) = m ((c.tc : Thread nD τ).loc main_arg2) (ix2 i k) := by
  blk_point [iblk, V, input_index t]

/-- The key bias row is the key bias. -/
theorem keyBias_read (c : Dev nD) (t : Fin cfg0.N) (k : Fin 256) :
    iblk m c 3 t (ix2 0 k) = m ((c.tc : Thread nD τ).loc main_arg3) (ix1 k) := by
  have h : iblk m c 3 t = V m c main_v2 := by blk_ext! [iblk, input_index t]
  rw [h, keyBias_entry]
  pointwise

/-- The value weights' block is the whole array. -/
theorem valueWeights_read (c : Dev nD) (t : Fin cfg0.N) (i k : Fin 256) :
    iblk m c 4 t (ix2 i k) = m ((c.tc : Thread nD τ).loc main_arg4) (ix2 i k) := by
  blk_point [iblk, V, input_index t]

/-- The value bias row is the value bias. -/
theorem valueBias_read (c : Dev nD) (t : Fin cfg0.N) (k : Fin 256) :
    iblk m c 5 t (ix2 0 k) = m ((c.tc : Thread nD τ).loc main_arg5) (ix1 k) := by
  have h : iblk m c 5 t = V m c main_v3 := by blk_ext! [iblk, input_index t]
  rw [h, valueBias_entry]
  pointwise

/-- The gate's weights for the key are the first 256 of its 512 weights. -/
theorem gateKey_read (c : Dev nD) (t : Fin cfg0.N) (k : Fin 256) :
    iblk m c 6 t (ix2 0 k) = m ((c.tc : Thread nD τ).loc main_arg6) (ix2 0 ⟨k.val, by omega⟩) := by
  have h : iblk m c 6 t = V m c main_v4 := by blk_ext! [iblk, input_index t]
  rw [h, gateKey_entry]
  pointwise

/-- The gate's weights for the value are the last 256 of its 512 weights. -/
theorem gateValue_read (c : Dev nD) (t : Fin cfg0.N) (k : Fin 256) :
    iblk m c 7 t (ix2 0 k) = m ((c.tc : Thread nD τ).loc main_arg6) (ix2 0 ⟨256 + k.val, by omega⟩) := by
  have h : iblk m c 7 t = V m c main_v5 := by blk_ext! [iblk, input_index t]
  rw [h, gateValue_entry]
  pointwise

/-- The gate's bias block is its bias. -/
theorem gateBias_read (c : Dev nD) (t : Fin cfg0.N) :
    iblk m c 8 t (ix2 0 0) = m ((c.tc : Thread nD τ).loc main_arg7) (ix1 0) := by
  have h : iblk m c 8 t = V m c main_v6 := by blk_ext! [iblk, input_index t]
  rw [h, gateBias_entry]
  pointwise

/-- The encoded key row a grid point computes is the encoding of the key. -/
theorem key_encoded (c : Dev nD) (t : Fin cfg0.N) (i : Fin 256) :
    k0_pay3 (F := Ideal) (iblk m c 0 t) (iblk m c 2 t) (iblk m c 3 t) (ix2 0 i)
      = encode (m ((c.tc : Thread nD τ).loc main_arg0)) (m ((c.tc : Thread nD τ).loc main_arg2))
          (m ((c.tc : Thread nD τ).loc main_arg3)) i := by
  rw [key_at, keyBias_read, encode]
  simp only [key_read, keyWeights_read]

/-- The encoded value row a grid point computes is the encoding of the value. -/
theorem value_encoded (c : Dev nD) (t : Fin cfg0.N) (i : Fin 256) :
    k0_pay4 (F := Ideal) (iblk m c 1 t) (iblk m c 4 t) (iblk m c 5 t) (ix2 0 i)
      = encode (m ((c.tc : Thread nD τ).loc main_arg1)) (m ((c.tc : Thread nD τ).loc main_arg4))
          (m ((c.tc : Thread nD τ).loc main_arg5)) i := by
  rw [value_at, valueBias_read, encode]
  simp only [value_read, valueWeights_read]

end Cert.Association

end
-- ==== Proof.Arrays.lean ====
/-
  What the kernel's four result arrays hold after all grid points, as the functions of the arguments in Spec.lean.
-/
module

public import proofs.«01_k».proof.Proof.Inputs

@[expose] public section

set_option maxRecDepth 16384

noncomputable section

namespace Cert.Association

open Cert.KernelIdeal Cert.KernelIdeal.Gen Idealize.ShloMosaic Idealize.ShloMosaic.TcCoe
open Idealize.ShloMosaic.Pipeline (Dat)

variable (m : (ℓ : Loc nD τ sig) → Buf (Elt Ideal) ℓ)

/-- The encoded key, of the arguments on core `c`. -/
abbrev keyCode (c : Dev nD) : FVec Ideal S256 .f32 :=
  encoding (m ((c.tc : Thread nD τ).loc main_arg0)) (m ((c.tc : Thread nD τ).loc main_arg2)) (m ((c.tc : Thread nD τ).loc main_arg3))

/-- The encoded value, of the arguments on core `c`. -/
abbrev valueCode (c : Dev nD) : FVec Ideal S256 .f32 :=
  encoding (m ((c.tc : Thread nD τ).loc main_arg1)) (m ((c.tc : Thread nD τ).loc main_arg4)) (m ((c.tc : Thread nD τ).loc main_arg5))

/-- The block of the memory written at point `t` is block `39 - t`: the last point writes block 0. -/
theorem memory_index : ∀ t : Fin cfg0.N, win0_9.index t = ![39 - t.val, 0, 0] :=
  (by decide +kernel : ∀ t : Fin grid0.N, win0_9.index t = ![39 - t.val, 0, 0])

/-- The three other result windows stay at block 0. -/
theorem row_index : ∀ t : Fin cfg0.N, win0_10.index t = ![0, 0] ∧ win0_11.index t = ![0, 0] ∧ win0_12.index t = ![0, 0] :=
  (by decide +kernel : ∀ t : Fin grid0.N, _)

/-- Before the last point the memory's block is left zero. -/
theorem block_zero (c : Dev nD) (t : Fin cfg0.N) (h : ¬ t.val % 40 = 39) (y : S25x256x256.Idx) :
    (outsAt0 m c t.val t.isLt).1 y = 0 := by
  rw [outsAt0_A m c t h]
  frame_out
  exact zeros_at y

/-- At the last point the memory's block holds the association in its slot 0 and zero elsewhere. -/
theorem block_stored (c : Dev nD) (t : Fin cfg0.N) (h : t.val % 40 = 39) (a : Fin 25) (r s : Fin 256) :
    (outsAt0 m c t.val t.isLt).1 (ix3 a r s) = if a.val = 0
      then Ideal.ofBits .f32 0x3F4CCCCD#32 * (keyCode m c (ix1 r) * valueCode m c (ix1 s)) else 0 := by
  rw [outsAt0_B m c t h]
  frame_out
  split
  · next h0 =>
    have hy : (ix3 a r s : S25x256x256.Idx)
        = (Rect.unit (s := S25x256x256) ![0, 0, 0] ![1, 256, 256] inb_S25x256x256_S1x256x256_0_0_0).emb (ix3 (0 : Fin 1) r s) := by
      blk_ext []
    rw [hy, View.canon_cons_emb, association_at, key_encoded, value_encoded]
    rfl
  · next h0 =>
    rw [View.canon_cons_of_not_mem, View.canon_cons_unit_lit]
    · exact zeros_at _
    · decide
    · intro hm
      have h1 := ((Rect.mem_set_unit (inb := inb_S25x256x256_S1x256x256_0_0_0)).mp hm 0).2
      have h2 : a.val < 0 + 1 := h1
      omega

/-- The encoded key row the last point leaves. -/
theorem key_stored (c : Dev nD) (t : Fin cfg0.N) (h : t.val % 40 = 39) (k : Fin 256) :
    (outsAt0 m c t.val t.isLt).2.1 (ix2 0 k) = keyCode m c (ix1 k) := by
  rw [outsAt0_B m c t h]
  frame_out
  exact key_encoded m c t k

/-- The encoded value row the last point leaves. -/
theorem value_stored (c : Dev nD) (t : Fin cfg0.N) (h : t.val % 40 = 39) (k : Fin 256) :
    (outsAt0 m c t.val t.isLt).2.2.1 (ix2 0 k) = valueCode m c (ix1 k) := by
  rw [outsAt0_B m c t h]
  frame_out
  exact value_encoded m c t k

/-- The gate the last point leaves. -/
theorem gate_stored (c : Dev nD) (t : Fin cfg0.N) (h : t.val % 40 = 39) :
    (outsAt0 m c t.val t.isLt).2.2.2 (ix2 0 0)
      = gate (keyCode m c) (valueCode m c) (m ((c.tc : Thread nD τ).loc main_arg6)) (m ((c.tc : Thread nD τ).loc main_arg7)) (ix1 0) := by
  rw [outsAt0_B m c t h]
  frame_out
  rw [gate_at, gateBias_read, gate]
  simp only [key_encoded, value_encoded, gateKey_read, gateValue_read]
  rfl

/-- The memory array after the run. -/
theorem memory_final (c : Dev nD) : (dats m 0 c).arrAt 9 cfg0.N = memory (keyCode m c) (valueCode m c) := by
  refine (dats m 0 c).arrAt_eq_of_covers 9 _ (by decide +kernel) fun t hf y => ?_
  have ht : t.val < 40 := t.isLt
  obtain ⟨x, hx⟩ : ∃ x, x = ((cfg0.win 9).blk t).view.emb y := ⟨_, rfl⟩
  have h0 : (x 0).val = (39 - t.val) * 25 + (y 0).val := by rw [hx]; blk_simp [memory_index t]
  have h1 : (x 1).val = (y 1).val := by rw [hx]; blk_simp [memory_index t]
  have h2 : (x 2).val = (y 2).val := by rw [hx]; blk_simp [memory_index t]
  rw [← hx]
  clear hx
  blk_simp
  rw [after0_9]
  idx_vars y
  have e1 : x 1 = y1 := Fin.ext h1
  have e2 : x 2 = y2 := Fin.ext h2
  rw [memory, e1, e2]
  by_cases h : t.val % 40 = 39
  · rw [block_stored m c t h]
    by_cases hz : y0.val = 0
    · rw [if_pos hz, if_pos (by rw [h0]; omega)]
    · rw [if_neg hz, if_neg (by rw [h0]; omega)]
  · rw [block_zero m c t h, if_neg (by rw [h0]; omega)]

/-- The encoded key row after the run. -/
theorem key_final (c : Dev nD) : (dats m 0 c).arrAt 10 cfg0.N = fun j => keyCode m c (ix1 (j 1)) := by
  refine (dats m 0 c).arrAt_eq_of_covers 10 _ (by decide +kernel) fun t hf y => ?_
  have h := (flush0_10 t).mp hf
  have hx : ((cfg0.win 10).blk t).view.emb y = y := by blk_ext [row_index t]
  rw [hx]
  blk_simp
  rw [after0_10]
  idx_vars y
  rw [Fin.fin_one_eq_zero y0]
  exact key_stored m c t h y1

/-- The encoded value row after the run. -/
theorem value_final (c : Dev nD) : (dats m 0 c).arrAt 11 cfg0.N = fun j => valueCode m c (ix1 (j 1)) := by
  refine (dats m 0 c).arrAt_eq_of_covers 11 _ (by decide +kernel) fun t hf y => ?_
  have h := (flush0_11 t).mp hf
  have hx : ((cfg0.win 11).blk t).view.emb y = y := by blk_ext [row_index t]
  rw [hx]
  blk_simp
  rw [after0_11]
  idx_vars y
  rw [Fin.fin_one_eq_zero y0]
  exact value_stored m c t h y1

/-- The gate after the run. -/
theorem gate_final (c : Dev nD) : (dats m 0 c).arrAt 12 cfg0.N = fun _ =>
    gate (keyCode m c) (valueCode m c) (m ((c.tc : Thread nD τ).loc main_arg6)) (m ((c.tc : Thread nD τ).loc main_arg7)) (ix1 0) := by
  refine (dats m 0 c).arrAt_eq_of_covers 12 _ (by decide +kernel) fun t hf y => ?_
  have h := (flush0_12 t).mp hf
  blk_simp
  rw [after0_12]
  idx_vars y
  rw [Fin.fin_one_eq_zero y0, Fin.fin_one_eq_zero y1]
  exact gate_stored m c t h

end Cert.Association

end
-- ==== Proof.Results.lean ====
/-
  The kernel's run with each of its four results named as a function of the arguments: the memory as the grid leaves it,
  and the gate and the two encodings after the reshapes that follow the grid.
-/
module

public import proofs.«01_k».proof.Proof.Arrays
public import Idealize.ShloMosaic.Lib.Pipeline.FrameSuffix

@[expose] public section

set_option maxRecDepth 16384

noncomputable section

namespace Cert.Association

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The gate on core `c`, of the arguments there. -/
abbrev gateCode (c : Dev nD) : FVec Ideal S1 .f32 :=
  gate (keyCode m c) (valueCode m c) (m ((c.tc : Thread nD τ).loc main_arg6)) (m ((c.tc : Thread nD τ).loc main_arg7))

/-- The windows' arrays are thirteen different buffers. -/
theorem arrays_differ : Function.Injective (Pipeline.arrRef spec0) := by decide

/-- The gate is what the grid leaves in its buffer, before the reshape that follows. -/
theorem gate_left (c : Dev nD) : Pipeline.withArrays spec0 c (V0 m c) (fun w => (dats m 0 c).arrAt w cfg0.N)
    (Proc.devRef .tc main_v7_3) = fun _ => gateCode m c (ix1 0) :=
  (Pipeline.withArrays_arr spec0 arrays_differ c (V0 m c) (fun w => (dats m 0 c).arrAt w cfg0.N) 12).trans (gate_final m c)

/-- The gate is what the run ends with in that result's buffer, after the reshape. -/
theorem gate_result (c : Dev nD) : Pipeline.afterTail₀ cfgs (dats m) 0 (V0 m) [hostOps1] c main_v8 = gateCode m c := by
  show StableHlo.after hostOps1 (Pipeline.withArrays spec0 c (V0 m c) fun w => (dats m 0 c).arrAt w cfg0.N) (Proc.devRef .tc main_v8) = _
  after_results_simp
  rw [gate_left]
  funext j
  rfl

/-- The encoded key, as a row, is what the grid leaves in its buffer, before the reshape that follows. -/
theorem key_left (c : Dev nD) : Pipeline.withArrays spec0 c (V0 m c) (fun w => (dats m 0 c).arrAt w cfg0.N)
    (Proc.devRef .tc main_v7_1) = fun j => keyCode m c (ix1 (j 1)) :=
  (Pipeline.withArrays_arr spec0 arrays_differ c (V0 m c) (fun w => (dats m 0 c).arrAt w cfg0.N) 10).trans (key_final m c)

/-- The encoded key is what the run ends with in that result's buffer, after the reshape. -/
theorem key_result (c : Dev nD) : Pipeline.afterTail₀ cfgs (dats m) 0 (V0 m) [hostOps1] c main_v9 = keyCode m c := by
  show StableHlo.after hostOps1 (Pipeline.withArrays spec0 c (V0 m c) fun w => (dats m 0 c).arrAt w cfg0.N) (Proc.devRef .tc main_v9) = _
  after_results_simp
  rw [key_left]
  funext j
  idx_vars j
  pointwise

/-- The encoded value, as a row, is what the grid leaves in its buffer, before the reshape that follows. -/
theorem value_left (c : Dev nD) : Pipeline.withArrays spec0 c (V0 m c) (fun w => (dats m 0 c).arrAt w cfg0.N)
    (Proc.devRef .tc main_v7_2) = fun j => valueCode m c (ix1 (j 1)) :=
  (Pipeline.withArrays_arr spec0 arrays_differ c (V0 m c) (fun w => (dats m 0 c).arrAt w cfg0.N) 11).trans (value_final m c)

/-- The encoded value is what the run ends with in that result's buffer, after the reshape. -/
theorem value_result (c : Dev nD) : Pipeline.afterTail₀ cfgs (dats m) 0 (V0 m) [hostOps1] c main_v10 = valueCode m c := by
  show StableHlo.after hostOps1 (Pipeline.withArrays spec0 c (V0 m c) fun w => (dats m 0 c).arrAt w cfg0.N) (Proc.devRef .tc main_v10) = _
  after_results_simp
  rw [value_left]
  funext j
  idx_vars j
  pointwise

/-- The run of the kernel: the four results. -/
theorem kernel_run : θ_run defs (onTc (τ := τ) (main (F := Ideal))) ⟨m, fun _ => 0, ρ⟩ fun r => ∀ c : Dev nD,
    r.2.mem ((c.tc : Thread nD τ).loc main_v7_0) = memory (keyCode m c) (valueCode m c)
    ∧ r.2.mem ((c.tc : Thread nD τ).loc main_v8) = gateCode m c
    ∧ r.2.mem ((c.tc : Thread nD τ).loc main_v9) = keyCode m c
    ∧ r.2.mem ((c.tc : Thread nD τ).loc main_v10) = valueCode m c := by
  run_from run_main m ρ
  · exact memory_final m c
  · exact gate_result m c
  · exact key_result m c
  · exact value_result m c

end Cert.Association

end
-- ==== Proof.Reference.lean ====
/-
  What the reference computes, its four result terms read entry by entry as the functions of Spec.lean.
-/
module

public import proofs.«01_k».proof.Proof.Gen.ReferenceIdeal.Run
public import proofs.«01_k».proof.Proof.Spec
public import Idealize.ShloMosaic.Lib.Routing.OpsSet
public import Idealize.ShloMosaic.Lib.Routing.OpsPair

@[expose] public section

set_option maxRecDepth 16384

noncomputable section

namespace Cert.Association.Reference

open Cert.ReferenceIdeal Cert.ReferenceIdeal.Gen Idealize.ShloMosaic Idealize.ShloMosaic.TcCoe

/-- The reference's encoding of a vector. -/
abbrev encodingTerm (x : FVec Ideal S256 .f32) (W : FVec Ideal S256x256 .f32) (b : FVec Ideal S256 .f32) : FVec Ideal S256 .f32 :=
  Host.tanh (addf (Host.dotGeneral dot_S256_S256x256_S256_0_0_n_1_n_n none x (transpose S256x256 [1, 0] W transposes_S256x256_S256x256_1_0)) b)

/-- The reference's gate of two encodings. -/
abbrev gateTerm (ek ev : FVec Ideal S256 .f32) (Wg : FVec Ideal S1x512 .f32) (bg : FVec Ideal S1 .f32) : FVec Ideal S1 .f32 :=
  Host.divf (broadcastInDim S1 ![] bcast_S_S1 (constant S_ .f32 0x3F800000#32))
    (addf (broadcastInDim S1 ![] bcast_S_S1 (constant S_ .f32 0x3F800000#32))
      (Host.exp (Host.negf (addf (Host.dotGeneral dot_S512_S512x1_S1_0_0_n_1_n_n none
        (concatenate S512 0 [⟨S256, ek⟩, ⟨S256, ev⟩] concatenates_S256_S256_S512_d0)
        (transpose S512x1 [1, 0] Wg transposes_S1x512_S512x1_1_0)) bg))))

/-- The association the reference stores. -/
abbrev associationTerm (ek ev : FVec Ideal S256 .f32) : FVec Ideal S256x256 .f32 :=
  mulf (broadcastInDim S256x256 ![] bcast_S_S256x256 (constant S_ .f32 0x3F4CCCCD#32))
    (mulf (broadcastInDim S256x256 ![0, 1] bcast_S256x1_S256x256_0_1 (broadcastInDim S256x1 ![0] bcast_S256_S256x1_0 ek))
      (broadcastInDim S256x256 ![0, 1] bcast_S1x256_S256x256_0_1 (broadcastInDim S1x256 ![1] bcast_S256_S1x256_1 ev)))

/-- The reference's memory: slot 0 of the given memory overwritten with the association. -/
abbrev memoryTerm (M : FVec Ideal S1000x256x256 .f32) (ek ev : FVec Ideal S256 .f32) : FVec Ideal S1000x256x256 .f32 :=
  Host.scatter scatter_S1000x256x256_S1_S256x256_01_0_0_0 (fun _ b => b) M
    (broadcastInDim S1 ![] bcast_S_S1 (constantI S_ 32 0#32)) (associationTerm ek ev)

/-- The reference's encoding is the encoding. -/
theorem encodingTerm_eq (x : FVec Ideal S256 .f32) (W : FVec Ideal S256x256 .f32) (b : FVec Ideal S256 .f32) :
    encodingTerm x W b = encoding x W b := by
  funext j
  idx_vars j
  pointwise [encoding, encode]

/-- The reference's gate is the gate. -/
theorem gateTerm_eq (ek ev : FVec Ideal S256 .f32) (Wg : FVec Ideal S1x512 .f32) (bg : FVec Ideal S1 .f32) :
    gateTerm ek ev Wg bg = gate ek ev Wg bg := by
  funext j
  idx_vars j
  pointwise [gate, Ideal.logistic]
  rw [Fin.fin_one_eq_zero j0]

/-- Entry `(r, s)` of the association the reference stores. -/
theorem associationTerm_at (ek ev : FVec Ideal S256 .f32) (r s : Fin 256) :
    associationTerm ek ev (ix2 r s) = Ideal.ofBits .f32 0x3F4CCCCD#32 * (ek (ix1 r) * ev (ix1 s)) := by
  pointwise

/-- Entry `(r, s)` of the association lands at an index of the memory exactly when that index is `(0, r, s)`. -/
theorem lands_iff (k : S256x256.Idx) (j : S1000x256x256.Idx) :
    scatter_S1000x256x256_S1_S256x256_01_0_0_0.resultIdx? k (broadcastInDim S1 ![] bcast_S_S1 (constantI S_ 32 0#32)) = some j
      ↔ (j 0).val = 0 ∧ (j 1).val = (k 0).val ∧ (j 2).val = (k 1).val := by
  have h0 : scatter_S1000x256x256_S1_S256x256_01_0_0_0.start k (broadcastInDim S1 ![] bcast_S_S1 (constantI S_ 32 0#32)) 0 = 0 := rfl
  have h1 : scatter_S1000x256x256_S1_S256x256_01_0_0_0.start k (broadcastInDim S1 ![] bcast_S_S1 (constantI S_ 32 0#32)) 1 = 0 := rfl
  have h2 : scatter_S1000x256x256_S1_S256x256_01_0_0_0.start k (broadcastInDim S1 ![] bcast_S_S1 (constantI S_ 32 0#32)) 2 = 0 := rfl
  have w0 : scatter_S1000x256x256_S1_S256x256_01_0_0_0.window k 0 = 0 := rfl
  have w1 : scatter_S1000x256x256_S1_S256x256_01_0_0_0.window k 1 = (k 0).val := rfl
  have w2 : scatter_S1000x256x256_S1_S256x256_01_0_0_0.window k 2 = (k 1).val := rfl
  rw [Routing.resultIdx?_eq_some]
  constructor
  · intro h
    have e0 := h 0
    have e1 := h 1
    have e2 := h 2
    rw [h0, w0] at e0
    rw [h1, w1] at e1
    rw [h2, w2] at e2
    omega
  · rintro ⟨e0, e1, e2⟩ a
    match a with
    | ⟨0, _⟩ =>
      show scatter_S1000x256x256_S1_S256x256_01_0_0_0.start k _ 0 + (scatter_S1000x256x256_S1_S256x256_01_0_0_0.window k 0 : Int) = ((j 0).val : Int)
      rw [h0, w0, e0, zero_add]
    | ⟨1, _⟩ =>
      show scatter_S1000x256x256_S1_S256x256_01_0_0_0.start k _ 1 + (scatter_S1000x256x256_S1_S256x256_01_0_0_0.window k 1 : Int) = ((j 1).val : Int)
      rw [h1, w1, e1, zero_add]
    | ⟨2, _⟩ =>
      show scatter_S1000x256x256_S1_S256x256_01_0_0_0.start k _ 2 + (scatter_S1000x256x256_S1_S256x256_01_0_0_0.window k 2 : Int) = ((j 2).val : Int)
      rw [h2, w2, e2, zero_add]

/-- Over a memory whose slots after the first are zero, the reference's memory holds the one association and nothing else. -/
theorem memoryTerm_eq (M : FVec Ideal S1000x256x256 .f32) (ek ev : FVec Ideal S256 .f32)
    (hM : ∀ j : S1000x256x256.Idx, (j 0).val ≠ 0 → M j = 0) : memoryTerm M ek ev = memory ek ev := by
  funext j
  idx_vars j
  rw [memory_at]
  by_cases hz : j0.val = 0
  · rw [if_pos hz]
    refine Routing.scatter_set_hit _ _ _ _ _ _ (fun k hk => ?_) (ix2 j1 j2) ((lands_iff _ _).mpr ⟨hz, rfl, rfl⟩)
    obtain ⟨-, e1, e2⟩ := (lands_iff _ _).mp hk
    idx_vars k
    obtain rfl : k0 = j1 := Fin.ext e1.symm
    obtain rfl : k1 = j2 := Fin.ext e2.symm
    exact associationTerm_at ek ev _ _
  · rw [if_neg hz]
    exact (Routing.scatter_set_miss _ _ _ _ _ fun k hk => hz ((lands_iff _ _).mp hk).1).trans (hM _ hz)

end Cert.Association.Reference

end
-- ==== Proof.EmptyMemory.lean ====
/-
  What the precondition says: every slot of the given memory after the first is zero.
-/
module

public import proofs.«01_k».proof.Proof.Gen.Pre_empty_memory
public import Idealize.ShloMosaic.Lib.Pointwise
public import Idealize.ShloMosaic.Lib.ReduceAll

@[expose] public section

set_option maxRecDepth 16384

noncomputable section

namespace Cert.Association

open Cert.Pre_empty_memory Cert.Pre_empty_memory.Gen Idealize.ShloMosaic

/-- The precondition's one result has one index. -/
instance scalar_index : Subsingleton S_.Idx := ⟨fun a b => funext fun i => nomatch i⟩

/-- If the precondition holds, an entry of the memory at a slot other than 0 is zero. -/
theorem slots_zero (a0 a1 : FVec Ideal S256 .f32) (a2 : FVec Ideal S256x256 .f32) (a3 : FVec Ideal S256 .f32)
    (a4 : FVec Ideal S256x256 .f32) (a5 : FVec Ideal S256 .f32) (a6 : FVec Ideal S1x512 .f32) (a7 : FVec Ideal S1 .f32)
    (M : FVec Ideal S1000x256x256 .f32) (h : fn (F := Ideal) a0 a1 a2 a3 a4 a5 a6 a7 M = fun _ => 1#1)
    (j : S1000x256x256.Idx) (hj : (j 0).val ≠ 0) : M j = 0 := by
  have hall := fun i => Host.reduce_andi_all _ _ _ _ _ (congrFun h (fun i => nomatch i)) i
  idx_vars j
  have hlt := j0.isLt
  have e := hall (ix3 (⟨j0.val - 1, by omega⟩ : Fin 999) j1 j2)
  have e' := (Ideal.cmp_oeq_eq_one _ _).mp e
  refine Eq.trans ?_ (e'.trans ?_)
  · pointwise
    exact congrArg (fun a => M (ix3 a j1 j2)) (Fin.ext (by show j0.val = 1 + (j0.val - 1); omega))
  · pointwise

end Cert.Association

end
-- ==== Proof.lean ====
/-
  The proof of this directory's claims. The three frames are the generated ones (the reference runs on the host alone and
  declares no semaphore), the preservation claim compares a program with itself, and the equation of the idealized kernel
  and the idealized reference is the kernel's run (Proof/Results.lean) beside the reference's terms (Proof/Reference.lean),
  under the precondition read in Proof/EmptyMemory.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_empty_memory
public import proofs.«01_k».proof.Proof.Gen.ReferenceIdeal.Run
public import proofs.«01_k».proof.Proof.Results
public import proofs.«01_k».proof.Proof.Reference
public import proofs.«01_k».proof.Proof.EmptyMemory
public import Idealize.ShloMosaic.Adequacy
public import Idealize.ShloMosaic.Init

@[expose] public section

noncomputable section

namespace Cert.Proof

open Idealize.ShloMosaic Idealize.ShloMosaic.TcCoe Idealize.SL.Sem

/-- The reference terminates from every memory, leaves its arguments as they were and every semaphore counter at zero. -/
theorem reference_frame : Cert.quiescent_ReferenceIdeal := fun m g _ =>
  (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m g)

/-- The same where the precondition holds. -/
theorem reference_frame_pre : Cert.quiescent_ReferenceIdeal_pre_empty_memory := fun m g _ =>
  reference_frame m g trivial

/-- The kernel and the reference end with the same four results, wherever the memory's slots after the first are zero. -/
theorem results_equal : Cert.algebraic_KernelIdeal_ReferenceIdeal_pre_empty_memory := by
  intro m g m' g' hpre hagree
  refine ⟨fun c => Cert.Association.memory (Cert.Association.keyCode m c) (Cert.Association.valueCode m c),
    fun c => Cert.Association.gateCode m c, fun c => Cert.Association.keyCode m c, fun c => Cert.Association.valueCode m c, ?_, ?_⟩
  · refine (θ_run Cert.KernelIdeal.defs _ _).mono (fun r h c => ?_)
      (Idealize.ShloMosaic.θ_run_and (Cert.Association.kernel_run m g) (Cert.KernelIdeal.Gen.unchanged m g))
    obtain ⟨h0, h1, h2, h3⟩ := h.1 c
    exact ⟨h0, h1, h2, h3, h.2 c⟩
  · refine (θ_run Cert.ReferenceIdeal.defs _ _).mono (fun r h c => ?_) (Cert.ReferenceIdeal.Value.run (F := Ideal) m' g')
    obtain ⟨h0, h1, h2, h3, hargs⟩ := h c
    obtain ⟨a0, a1, a2, a3, a4, a5, a6, a7, a8⟩ := hagree c
    have hk := (Cert.Association.Reference.encodingTerm_eq (m' (c.tc.loc Cert.ReferenceIdeal.main_arg0))
      (m' (c.tc.loc Cert.ReferenceIdeal.main_arg2)) (m' (c.tc.loc Cert.ReferenceIdeal.main_arg3)))
    have hv := (Cert.Association.Reference.encodingTerm_eq (m' (c.tc.loc Cert.ReferenceIdeal.main_arg1))
      (m' (c.tc.loc Cert.ReferenceIdeal.main_arg4)) (m' (c.tc.loc Cert.ReferenceIdeal.main_arg5)))
    have hg := fun ek ev => Cert.Association.Reference.gateTerm_eq ek ev (m' (c.tc.loc Cert.ReferenceIdeal.main_arg6))
      (m' (c.tc.loc Cert.ReferenceIdeal.main_arg7))
    have hM := fun ek ev => Cert.Association.Reference.memoryTerm_eq (m' (c.tc.loc Cert.ReferenceIdeal.main_arg8)) ek ev
      fun j hj => by rw [a8]; exact Cert.Association.slots_zero _ _ _ _ _ _ _ _ _ (hpre c) j hj
    rw [a0, a2, a3] at hk
    rw [a1, a4, a5] at hv
    refine ⟨h0.trans ?_, h1.trans ?_, h2.trans ?_, h3.trans ?_, hargs⟩
    · refine (hM _ _).trans ?_
      rw [a0, a1, a2, a3, a4, a5]
      exact congrArg₂ Cert.Association.memory hk hv
    · refine (hg _ _).trans ?_
      rw [a0, a1, a2, a3, a4, a5, a6, a7]
      exact congrArg₂ (fun ek ev => Cert.Association.gate ek ev _ _) hk hv
    · rw [a0, a2, a3]
      exact hk
    · rw [a1, a4, a5]
      exact hv

/-- Every claim of this directory. -/
theorem claim : Cert.Claim := ⟨Cert.Kernel.Gen.facts, Cert.KernelIdeal.Gen.facts, Cert.ReferenceIdeal.Gen.facts, Cert.Pre_empty_memory.Gen.facts,
  fun m g _ => Cert.Kernel.Gen.frame m g, fun m g _ => Cert.KernelIdeal.Gen.frame m g, fun m g _ => Cert.KernelIdeal.Gen.frame m g,
  reference_frame, reference_frame_pre, trivial, results_equal⟩

end Cert.Proof

end
